-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4480 : Shape := ⟨3, ![1, 8192, 4480]⟩
abbrev S4480x8320 : Shape := ⟨2, ![4480, 8320]⟩
abbrev S8320 : Shape := ⟨1, ![8320]⟩
abbrev S8192x4480 : Shape := ⟨2, ![8192, 4480]⟩
abbrev S1x8320 : Shape := ⟨2, ![1, 8320]⟩
abbrev S8192x8320 : Shape := ⟨2, ![8192, 8320]⟩
abbrev S8192x1 : Shape := ⟨2, ![8192, 1]⟩
abbrev S512x4480 : Shape := ⟨2, ![512, 4480]⟩
abbrev S4480x1664 : Shape := ⟨2, ![4480, 1664]⟩
abbrev S1x1664 : Shape := ⟨2, ![1, 1664]⟩
abbrev S512x1664 : Shape := ⟨2, ![512, 1664]⟩
abbrev S512x1 : Shape := ⟨2, ![512, 1]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S1x8192x4480, .bf16⟩
  | .hbm, ⟨1, _⟩ => ⟨S4480x8320, .fp8e4m3⟩
  | .hbm, ⟨2, _⟩ => ⟨S8320, .f32⟩
  | .hbm, ⟨3, _⟩ => ⟨S8320, .f32⟩
  | .hbm, ⟨4, _⟩ => ⟨S8192x4480, .bf16⟩
  | .hbm, ⟨5, _⟩ => ⟨S1x8320, .f32⟩
  | .hbm, ⟨6, _⟩ => ⟨S1x8320, .f32⟩
  | .hbm, ⟨7, _⟩ => ⟨S8192x8320, .bf16⟩
  | .hbm, ⟨8, _⟩ => ⟨S8192x4480, .fp8e4m3⟩
  | .hbm, ⟨9, _⟩ => ⟨S8192x1, .f32⟩
  | .local _ .vmem, ⟨0, _⟩ => ⟨S512x4480, .bf16⟩
  | .local _ .vmem, ⟨1, _⟩ => ⟨S512x4480, .bf16⟩
  | .local _ .vmem, ⟨2, _⟩ => ⟨S4480x1664, .fp8e4m3⟩
  | .local _ .vmem, ⟨3, _⟩ => ⟨S4480x1664, .fp8e4m3⟩
  | .local _ .vmem, ⟨4, _⟩ => ⟨S1x1664, .f32⟩
  | .local _ .vmem, ⟨5, _⟩ => ⟨S1x1664, .f32⟩
  | .local _ .vmem, ⟨6, _⟩ => ⟨S1x1664, .f32⟩
  | .local _ .vmem, ⟨7, _⟩ => ⟨S1x1664, .f32⟩
  | .local _ .vmem, ⟨8, _⟩ => ⟨S512x1664, .bf16⟩
  | .local _ .vmem, ⟨9, _⟩ => ⟨S512x1664, .bf16⟩
  | .local _ .vmem, ⟨10, _⟩ => ⟨S512x4480, .fp8e4m3⟩
  | .local _ .vmem, ⟨11, _⟩ => ⟨S512x4480, .fp8e4m3⟩
  | .local _ .vmem, ⟨12, _⟩ => ⟨S512x1, .f32⟩
  | .local _ .vmem, ⟨13, _⟩ => ⟨S512x1, .f32⟩
  | _, _ => ⟨S1x8192x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4480x1664 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4480 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S1x8192x4480 : Shape := ⟨3, ![1, 8192, 4480]⟩
abbrev S4480x8320 : Shape := ⟨2, ![4480, 8320]⟩
abbrev S8320 : Shape := ⟨1, ![8320]⟩
abbrev S8192x4480 : Shape := ⟨2, ![8192, 4480]⟩
abbrev S1x8320 : Shape := ⟨2, ![1, 8320]⟩
abbrev S8192x8320 : Shape := ⟨2, ![8192, 8320]⟩
abbrev S8192x1 : Shape := ⟨2, ![8192, 1]⟩
abbrev S8192 : Shape := ⟨1, ![8192]⟩

abbrev nBuf : Space → Nat
  | .hbm => 10
  | .vmem => 7
  | .smem => 0
  | _ => 0

abbrev bufTy : (tb : Table) → Fin (tcTables nBuf tb) → BufTy
  | .hbm, ⟨0, _⟩ => ⟨S1x8192x4480, .bf16⟩
  | .hbm, ⟨1, _⟩ => ⟨S4480x8320, .fp8e4m3⟩
  | .hbm, ⟨2, _⟩ => ⟨S8320, .f32⟩
  | .hbm, ⟨3, _⟩ => ⟨S8320, .f32⟩
  | .hbm, ⟨4, _⟩ => ⟨S8192x4480, .bf16⟩
  | .hbm, ⟨5, _⟩ => ⟨S1x8320, .f32⟩
  | .hbm, ⟨6, _⟩ => ⟨S1x8320, .f32⟩
  | .hbm, ⟨7, _⟩ => ⟨S8192x8320, .bf16⟩
  | .hbm, ⟨8, _⟩ => ⟨S8192x4480, .fp8e4m3⟩
  | .hbm, ⟨9, _⟩ => ⟨S8192x1, .f32⟩
  | .local _ .vmem, ⟨0, _⟩ => ⟨S8192x4480, .bf16⟩
  | .local _ .vmem, ⟨1, _⟩ => ⟨S4480x8320, .fp8e4m3⟩
  | .local _ .vmem, ⟨2, _⟩ => ⟨S1x8320, .f32⟩
  | .local _ .vmem, ⟨3, _⟩ => ⟨S1x8320, .f32⟩
  | .local _ .vmem, ⟨4, _⟩ => ⟨S8192x8320, .bf16⟩
  | .local _ .vmem, ⟨5, _⟩ => ⟨S8192x4480, .fp8e4m3⟩
  | .local _ .vmem, ⟨6, _⟩ => ⟨S8192x1, .f32⟩
  | _, _ => ⟨S1x8192x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8192x4480 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4480x8320 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8320 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4480 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
module

public import proofs.«01_k».proof.Proof.Gen.KernelIdeal.Skeleton
public import proofs.«01_k».proof.Proof.Gen.KernelIdeal.Frame
public import Idealize.ShloMosaic.Lib.Pipeline.Value
public import Idealize.ShloMosaic.Lib.Pipeline.TableIdle
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block's codes from its rows of `x`. -/
def codesOf (x0 : Vec F S512x4480 .bf16) : Vec F S512x4480 .fp8e4m3 :=
  k0_pay2 (k0_pay4 x0) (k0_pay8 (k0_pay5 x0) (k0_pay6 x0) (k0_pay7 x0) 4#32)

/-- The block's scales from its rows of `x`. -/
def scaleOf (x0 : Vec F S512x4480 .bf16) : Vec F S512x1 .f32 :=
  k0_pay1 (k0_pay10 (k0_pay5 x0) (k0_pay6 x0) (k0_pay7 x0) 4#32) (k0_pay11 (k0_pay5 x0) (k0_pay6 x0) (k0_pay7 x0) 4#32) 23#32

/-- The offsets of a whole-buffer access are all zero. -/
theorem hz : (![0, 0] : Fin 2 → Nat) = fun _ => 0 := funext fun a => by fin_cases a <;> rfl

/-- Loading a whole buffer reads its contents. -/
theorem readAt_whole {S : Shape} {sp : Space} {e : EltTy} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  rw [View.readAt_eq_ld, View.ld_unit_zero h]

set_option maxHeartbeats 1000000 in
/-- THE BODY AT THE FIRST COLUMN BLOCK of a row block: whatever the three output buffers held, the codes and the scales of the
    rows are stored, and `y`'s block is computed from them. -/
theorem kernelRun_A (c : Dev nD) (i : grid0.Coords) (arg2 : Memref sig .tc .vmem S512x4480 .bf16) (harg2 : arg2.IsWhole) (arg3 : Memref sig .tc .vmem S4480x1664 .fp8e4m3) (harg3 : arg3.IsWhole) (arg4 : Memref sig .tc .vmem S1x1664 .f32) (harg4 : arg4.IsWhole) (arg5 : Memref sig .tc .vmem S1x1664 .f32) (harg5 : arg5.IsWhole) (arg6 : Memref sig .tc .vmem S512x1664 .bf16) (harg6 : arg6.IsWhole) (arg7 : Memref sig .tc .vmem S512x4480 .fp8e4m3) (harg7 : arg7.IsWhole) (arg8 : Memref sig .tc .vmem S512x1 .f32) (harg8 : arg8.IsWhole)
    (hc0 : k0_cond1 i = 1#1)
    (x0 : Vec F S512x4480 .bf16) (x1 : Vec F S4480x1664 .fp8e4m3) (x2 : Vec F S1x1664 .f32) (x3 : Vec F S1x1664 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (codesOf x0) x1 (scaleOf x0) x2 x3) ∗ owns (c : Thread nD τ) arg7 fullShare (codesOf x0) ∗ owns (c : Thread nD τ) arg8 fullShare (scaleOf x0)) -∗ K ⟨⟩))
          ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    subst hf0 hf1 hf2 hf3
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; · iexact H4
      ipureintro
      rw [View.read_writes_eq_canon _ _ _ (View.cover_of_tiled _ S512x1664.size (by rfl)), View.canon_unit_zero hz]
      unfold kernelRun_A.sl.v3 kernelRun_A.sl.v7 kernelRun_A.sl.H5_1 kernelRun_A.sl.H6_1
      rw [View.readCov_unit_zero _ hz, View.readCov_unit_zero _ hz, readAt_whole _ hz, readAt_whole _ hz, readAt_whole _ hz]
      unfold codesOf scaleOf kernelRun_A.sl.r kernelRun_A.sl.r_4 kernelRun_A.sl.r_5 kernelRun_A.sl.r_6 kernelRun_A.sl.r_1 kernelRun_A.sl.r_2 kernelRun_A.sl.r_3
      repeat rw [readAt_whole _ hz]
    isplitl [H5]
    · iexists _; isplitr; swap; · iexact H5
      ipureintro
      unfold kernelRun_A.sl.H5_1
      rw [View.read_writes_eq_canon _ _ _ (View.cover_of_tiled _ S512x4480.size (by rfl)), View.canon_unit_zero hz]
      unfold codesOf kernelRun_A.sl.r kernelRun_A.sl.r_4 kernelRun_A.sl.r_1 kernelRun_A.sl.r_2 kernelRun_A.sl.r_3
      repeat rw [readAt_whole _ hz]
    iexists _; isplitr; swap; · iexact H6
    ipureintro
    unfold kernelRun_A.sl.H6_1
    rw [View.read_writes_eq_canon _ _ _ (View.cover_of_tiled _ S512x1.size (by rfl)), View.canon_unit_zero hz]
    unfold scaleOf kernelRun_A.sl.r_5 kernelRun_A.sl.r_6 kernelRun_A.sl.r_1 kernelRun_A.sl.r_2 kernelRun_A.sl.r_3
    repeat rw [readAt_whole _ hz]

set_option maxHeartbeats 1000000 in
/-- THE BODY AT A LATER COLUMN BLOCK of a row block: the codes and the scales are read back as the first column block left
    them, and `y`'s block is computed from them. -/
theorem kernelRun_B (c : Dev nD) (i : grid0.Coords) (arg2 : Memref sig .tc .vmem S512x4480 .bf16) (harg2 : arg2.IsWhole) (arg3 : Memref sig .tc .vmem S4480x1664 .fp8e4m3) (harg3 : arg3.IsWhole) (arg4 : Memref sig .tc .vmem S1x1664 .f32) (harg4 : arg4.IsWhole) (arg5 : Memref sig .tc .vmem S1x1664 .f32) (harg5 : arg5.IsWhole) (arg6 : Memref sig .tc .vmem S512x1664 .bf16) (harg6 : arg6.IsWhole) (arg7 : Memref sig .tc .vmem S512x4480 .fp8e4m3) (harg7 : arg7.IsWhole) (arg8 : Memref sig .tc .vmem S512x1 .f32) (harg8 : arg8.IsWhole)
    (hc0 : ¬ k0_cond1 i = 1#1)
    (x0 : Vec F S512x4480 .bf16) (x1 : Vec F S4480x1664 .fp8e4m3) (x2 : Vec F S1x1664 .f32) (x3 : Vec F S1x1664 .f32)
    (xc : Vec F S512x4480 .fp8e4m3) (xs : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xc ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 xc x1 xs x2 x3) ∗ owns (c : Thread nD τ) arg7 fullShare xc ∗ owns (c : Thread nD τ) arg8 fullShare xs) -∗ K ⟨⟩))
          ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    subst hf0 hf1 hf2 hf3 hf5 hf6
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; · iexact H4
      ipureintro
      rw [View.read_writes_eq_canon _ _ _ (View.cover_of_tiled _ S512x1664.size (by rfl)), View.canon_unit_zero hz]
      repeat rw [readAt_whole _ hz]
    isplitl [H5]
    · iexists f5; isplitr; · ipureintro; rfl
      iexact H5
    iexists f6; isplitr; · ipureintro; rfl
    iexact H6

end Cert.KernelIdeal.Hand

end
-- ==== Proof.HandFrame.lean ====
module

public import proofs.«01_k».proof.Proof.Gen.KernelIdeal.Skeleton
public import proofs.«01_k».proof.Proof.Gen.KernelIdeal.Frame
public import proofs.«01_k».proof.Proof.Body
public import Idealize.ShloMosaic.Lib.Pipeline.Value
public import Idealize.ShloMosaic.Lib.Pipeline.TableIdle
public import Idealize.ShloMosaic.Lib.Claim
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The body stores the codes and the scales exactly at the first column block of each row block. -/
theorem hcond : ∀ t : Fin cfg0.N, k0_cond1 (grid0.coords t) = 1#1 ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [k0_cond1, e0, e1]
    word_cmp
   : ∀ t : Fin grid0.N, k0_cond1 (grid0.coords t) = 1#1 ↔ t.val % 5 = 0)

/-- At a later column block the codes' window is left as found; -/
theorem idle5 (t : Fin cfg0.N) : cfg0.idle 5 (cfg0.grid.coords t) = !decide (t.val % 5 = 0) := by
  show (!(k0_cond1 (grid0.coords t) == 1#1)) = _
  congr 1
  rw [Bool.eq_iff_iff, beq_iff_eq, decide_eq_true_iff, hcond t]
/-- and so is the scales'. -/
theorem idle6 (t : Fin cfg0.N) : cfg0.idle 6 (cfg0.grid.coords t) = !decide (t.val % 5 = 0) := idle5 t

/-- The codes' window is written back after the last column block of each row block; -/
theorem flush5 (t : Fin cfg0.N) : (cfg0.win 5).flush t = decide (t.val % 5 = 4) := by
  rw [Bool.eq_iff_iff, decide_eq_true_iff, flush0_5 t]
/-- and so is the scales'. -/
theorem flush6 (t : Fin cfg0.N) : (cfg0.win 6).flush t = decide (t.val % 5 = 4) := by
  rw [Bool.eq_iff_iff, decide_eq_true_iff, flush0_6 t]

/-- The codes' buffer holds nothing of the row block yet exactly at its first column block; -/
theorem fresh5 (t : Fin cfg0.N) : cfg0.fresh 5 t.val = decide (t.val % 5 = 0) :=
  Cfg.fresh_tab cfg0 5 (fun n => decide (n % 5 = 0)) rfl (fun t => by
    rw [idle5, flush5]
    rcases (show t.val % 5 = 0 ∨ t.val % 5 = 1 ∨ t.val % 5 = 2 ∨ t.val % 5 = 3 ∨ t.val % 5 = 4 by omega) with h | h | h | h | h <;>
      simp [h, Nat.add_mod]) t.val t.isLt.le
/-- and so for the scales'. -/
theorem fresh6 (t : Fin cfg0.N) : cfg0.fresh 6 t.val = decide (t.val % 5 = 0) :=
  Cfg.fresh_tab cfg0 6 (fun n => decide (n % 5 = 0)) rfl (fun t => by
    rw [idle6, flush6]
    rcases (show t.val % 5 = 0 ∨ t.val % 5 = 1 ∨ t.val % 5 = 2 ∨ t.val % 5 = 3 ∨ t.val % 5 = 4 by omega) with h | h | h | h | h <;>
      simp [h, Nat.add_mod]) t.val t.isLt.le

/-! ## The proof data -/

/-- What the staging buffers hold after the body at point `t`: the inputs' their blocks, the codes' and the scales' those of
    the point's rows of `x`, `y`'s the block computed from these. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (codesOf (iblk m c 0 t)) (iblk m c 1 t) (scaleOf (iblk m c 0 t)) (iblk m c 2 t) (iblk m c 3 t)
    | ⟨5, _⟩ => codesOf (iblk m c 0 t)
    | ⟨6, _⟩ => scaleOf (iblk m c 0 t)
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves in the windows: each input's block as it was, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
/-- the product block, -/
theorem after0_4 (c : Dev nD) (t : Fin cfg0.N) : (dats m 0 c).after 4 t
    = k0_pay3 (codesOf (iblk m c 0 t)) (iblk m c 1 t) (scaleOf (iblk m c 0 t)) (iblk m c 2 t) (iblk m c 3 t) := by dsimp only [dats]
/-- the codes of the row block, -/
theorem after0_5 (c : Dev nD) (t : Fin cfg0.N) : (dats m 0 c).after 5 t = codesOf (iblk m c 0 t) := by dsimp only [dats]
/-- and its scales. -/
theorem after0_6 (c : Dev nD) (t : Fin cfg0.N) : (dats m 0 c).after 6 t = scaleOf (iblk m c 0 t) := by dsimp only [dats]

/-- Each input's buffer holds its block before the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later column block the rows of `x` are those of the point before. -/
theorem iblk0_carry (c : Dev nD) (t : Fin cfg0.N) (h : ¬ t.val % 5 = 0) :
    iblk m c 0 t = iblk m c 0 ⟨t.val - 1, Nat.lt_of_le_of_lt (Nat.sub_le _ _) t.isLt⟩ := by
  have hf : (cfg0.win 0).fetch t = false := by
    rw [Bool.eq_false_iff]; exact fun hh => h ((fetch0_0 t).mp hh)
  have d : (cfg0.win 0).block.Idx → Elt F (cfg0.win 0).elt := iblk m c 0 t
  rw [← before0_0 m c t d, Dat.before_unfetched_in (dats m 0 c) 0 rfl t hf (fun _ => rfl) d]
  unfold Dat.kept; rw [after0_0]; rfl

/-- At a later column block the codes' buffer holds the codes of the point's rows; -/
theorem before0_5 (c : Dev nD) (t : Fin cfg0.N) (h : ¬ t.val % 5 = 0) (d) : (dats m 0 c).before 5 t d = codesOf (iblk m c 0 t) := by
  rw [Dat.before_out_traj (dats m 0 c) 5 rfl (fun _ _ => rfl) (fun t _ hi hf => by
    have h : ¬ t.val % 5 = 0 := by rw [idle5] at hi; simpa using hi
    rw [after0_5, after0_5, iblk0_carry m c t h]) t.val t rfl d]
  rw [fresh5, decide_eq_false h, if_neg Bool.false_ne_true, after0_5, ← iblk0_carry m c t h]
/-- and the scales' their scales. -/
theorem before0_6 (c : Dev nD) (t : Fin cfg0.N) (h : ¬ t.val % 5 = 0) (d) : (dats m 0 c).before 6 t d = scaleOf (iblk m c 0 t) := by
  rw [Dat.before_out_traj (dats m 0 c) 6 rfl (fun _ _ => rfl) (fun t _ hi hf => by
    have h : ¬ t.val % 5 = 0 := by rw [idle6] at hi; simpa using hi
    rw [after0_6, after0_6, iblk0_carry m c t h]) t.val t rfl d]
  rw [fresh6, decide_eq_false h, if_neg Bool.false_ne_true, after0_6, ← iblk0_carry m c t h]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A buffer holding the codes of the point's rows meets the codes' window's postcondition at every point; -/
theorem leaves5 (c : Dev nD) (t : Fin cfg0.N) :
    (owns (c : Thread nD τ) (st0_5 t) fullShare (codesOf (iblk m c 0 t)) : sProp 𝕄) ⊢ (dats m 0 c).leavesExact 5 t := by
  by_cases h : t.val % 5 = 0
  · unfold Dat.leavesExact; rw [idle5, decide_eq_true h, after0_5]; exact .rfl
  · by_cases h4 : t.val % 5 = 4
    · unfold Dat.leavesExact; rw [idle5, decide_eq_false h, flush5, decide_eq_true h4, after0_5]; exact .rfl
    · rw [Dat.leavesExact_idle _ 5 t (by rw [idle5, decide_eq_false h]; rfl) (by rw [flush5, decide_eq_false h4])]
      iintro H
      iexists (codesOf (iblk m c 0 t))
      rw [before0_5 m c t h]
      iexact H
/-- and one holding their scales the scales'. -/
theorem leaves6 (c : Dev nD) (t : Fin cfg0.N) :
    (owns (c : Thread nD τ) (st0_6 t) fullShare (scaleOf (iblk m c 0 t)) : sProp 𝕄) ⊢ (dats m 0 c).leavesExact 6 t := by
  by_cases h : t.val % 5 = 0
  · unfold Dat.leavesExact; rw [idle6, decide_eq_true h, after0_6]; exact .rfl
  · by_cases h4 : t.val % 5 = 4
    · unfold Dat.leavesExact; rw [idle6, decide_eq_false h, flush6, decide_eq_true h4, after0_6]; exact .rfl
    · rw [Dat.leavesExact_idle _ 6 t (by rw [idle6, decide_eq_false h]; rfl) (by rw [flush6, decide_eq_false h4])]
      iintro H
      iexists (scaleOf (iblk m c 0 t))
      rw [before0_6 m c t h]
      iexact H

/-- The windows that are never idle end at what the proof data says. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

set_option maxHeartbeats 800000 in
/-- The body at any point, by whether it is the first column block of its row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    after0_0, after0_1, after0_2, after0_3, after0_4]
  by_cases h0 : t.val % 5 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun_A c (grid0.coords t) _ _ _ _ _ _ _ _ _ _ _ _ _ _ ((hcond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6
  · simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun_B c (grid0.coords t) _ _ _ _ _ _ _ _ _ _ _ _ _ _ (fun h => h0 ((hcond t).mp h)) (iblk m c 0 t) (iblk m c 1 t) (iblk m c 2 t) (iblk m c 3 t) (codesOf (iblk m c 0 t)) (scaleOf (iblk m c 0 t)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6

/-- The definition the pipeline calls at a point is the body. -/
theorem defs₀_row (t : Fin cfg0.N) :
    defs₀ (F := F) .tc cfg0.body (cfg0.bodyArgs t (cfg0.slots t)) = bodyAt0 t := by
  unfold defs₀; rw [Defs.onTc_tc]

/-- The body meets the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE RUN: from any memory with zero counters, @main on every device terminates with every array at what the proof data
    computes and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program ends with each window's array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelFrame.lean ====
module

public import proofs.«01_k».proof.Defs
public import proofs.«01_k».proof.Proof.Gen.Kernel
public import proofs.«01_k».proof.Proof.HandFrame

@[expose] public section

set_option maxRecDepth 16384

noncomputable section

/-! # The kernel's frame

The kernel and the kernel over the extended reals are the same program text: no operation was rewritten. So the frame
proved of the one, at any floats, is the frame of the other. -/

namespace Cert.Proof

open Idealize.ShloMosaic Idealize.SL.Sem

local instance kernelFacts : Cert.Kernel.Facts := Cert.Kernel.Gen.facts
local instance kernelIdealFacts : Cert.KernelIdeal.Facts := Cert.KernelIdeal.Gen.facts

variable {F : FTy → Type} [FloatOps F]

/-- The two programs have the same body, -/
theorem body_eq : @Cert.Kernel.cc0__body F _ kernelFacts = @Cert.KernelIdeal.cc0__body F _ kernelIdealFacts := rfl

/-- the same body table, -/
theorem defs₀_eq : Cert.Kernel.defs₀ (F := F) = Cert.KernelIdeal.defs₀ (F := F) := by
  funext p ℓ a
  cases p with
  | tc =>
    match ℓ, a with
    | ⟨0, _⟩, (t, s) => rfl
  | scScalar _ => rfl
  | scVector _ _ => rfl

/-- also with the pipeline's own entries, -/
theorem defs_eq : Cert.Kernel.defs (F := F) = Cert.KernelIdeal.defs (F := F) :=
  congrArg (Pipeline.defs (Cert.KernelIdeal.pcfgs (F := F))) defs₀_eq

/-- and the same main function. -/
theorem main_eq : Cert.Kernel.main (F := F) = Cert.KernelIdeal.main (F := F) := rfl

/-- THE FRAME of the kernel: it runs, its arguments end unchanged and every semaphore counter at zero. -/
theorem kernel_frame : Cert.quiescent_Kernel := fun m ρ _ => by
  have h := Cert.KernelIdeal.Hand.frame (F := Bits) m ρ
  have e := congrArg (fun d => θ_run d (onTc (τ := Cert.KernelIdeal.τ) (Cert.KernelIdeal.main (F := Bits))) ⟨m, fun _ => 0, ρ⟩
    (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) (defs_eq (F := Bits))
  exact e.mpr h

end Cert.Proof

end
-- ==== Proof.Scalars.lean ====
module

public import proofs.«01_k».proof.Proof.Gen.ReferenceIdeal.Skeleton
public import Idealize.ShloMosaic.PureOps.Ideal.Laws

@[expose] public section

set_option maxRecDepth 16384

noncomputable section

namespace Cert.Values

open Idealize.ShloMosaic

/-! ## The scalar functions of the two programs -/

section Generic
variable {F : FTy → Type} [FloatOps F]

/-- The float whose word is `n` moved to the exponent field. -/
def pow2 (n : BitVec 32) : F .f32 := Scalar.ofBits .f32 (IntOp.shli .vector n 23#32)

/-- One step of the kernel's search: add `b` to the exponent field if the power of two it then names is at most `v`. -/
def step (v : F .f32) (n b : BitVec 32) : BitVec 32 :=
  Scalar.select (FloatOps.cmpf .oge v (pow2 (IntOp.addi n b))) (IntOp.addi n b) n

/-- The first five steps, -/
def search5 (v : F .f32) : BitVec 32 :=
  step v (step v (step v (step v (step v 0#32 128#32) 64#32) 32#32) 16#32) 8#32
/-- and the last three. -/
def search3 (v : F .f32) (n : BitVec 32) : BitVec 32 := step v (step v (step v n 4#32) 2#32) 1#32

/-- The exponent from the field found: the field less 126, 0 at the two fields that name no power of two, and 0 for a zero row. -/
def expOf (a : F .f32) (n : BitVec 32) : BitVec 32 :=
  Scalar.select (FloatOps.cmpf .oeq a (Scalar.ofBits .f32 0x00000000#32)) 0#32
    (Scalar.select (IntOp.ori (IntOp.cmpi .eq n 0#32) (IntOp.cmpi .eq n 255#32)) 0#32 (IntOp.subi n 126#32))

/-- The kernel's exponent of a row whose largest magnitude is `a`. -/
def expK (a : F .f32) : BitVec 32 :=
  expOf a (search3 (FloatOps.mulf a (Scalar.ofBits .f32 0x3B124925#32)) (search5 (FloatOps.mulf a (Scalar.ofBits .f32 0x3B124925#32))))

/-- The kernel's power of two of an exponent, as the product of two powers of half the exponent. -/
def ldexpK (e : BitVec 32) : F .f32 :=
  FloatOps.mulf (pow2 (IntOp.addi 127#32 (IntOp.shrsi .vector e 1#32)))
    (pow2 (IntOp.addi 127#32 (IntOp.subi e (IntOp.shrsi .vector e 1#32))))

/-- The code of `x` in a row with inverse scale `s`. -/
def code (x s : F .f32) : F .fp8e4m3 :=
  FloatOps.truncf .fp8e4m3 (φ := .f32) (by decide) (FloatOps.minimumf (Scalar.ofBits .f32 0x43E00000#32)
    (FloatOps.maximumf (Scalar.ofBits .f32 0xC3E00000#32) (FloatOps.mulf x s)))

end Generic

/-- The reference's exponent of a row whose largest magnitude is `a`. -/
def expR {F : FTy → Type} [FloatOps F] [Named F] (a : F .f32) : F .f32 :=
  let v : F .f32 := FloatOps.mulf a (Scalar.ofBits .f32 0x3B124925#32)
  Scalar.select (FloatOps.cmpf .oeq a (Scalar.ofBits .f32 0x00000000#32)) (Scalar.ofBits .f32 0x00000000#32)
    (Scalar.select (IntOp.andi (FloatOps.cmpf .oge v (Scalar.ofBits .f32 0x00800000#32)) (FloatOps.cmpf .olt v (Scalar.ofBits .f32 0x7F800000#32)))
      (FloatOps.minimumf
        (FloatOps.addf (FloatOps.floor (FloatOps.divf (FloatOps.log v) (Named.named Cert.ReferenceIdeal.κ "ln2" 0x3F317218#32))) (Scalar.ofBits .f32 0x3F800000#32))
        (Scalar.ofBits .f32 0x43000000#32))
      (Scalar.ofBits .f32 0x00000000#32))

end Cert.Values

end
-- ==== Proof.Payload.lean ====
module

public import proofs.«01_k».proof.Proof.Body
public import proofs.«01_k».proof.Proof.Scalars
public import proofs.«01_k».proof.Proof.Gen.ReferenceIdeal.Skeleton
public import Idealize.ShloMosaic.Lib.Pointwise
public import Idealize.ShloMosaic.PureOps.Ideal.Laws

@[expose] public section

set_option maxRecDepth 16384

noncomputable section

namespace Cert.Values

open Idealize.ShloMosaic

/-! ## The kernel's payloads, entry by entry -/

section Kernel
open Cert.KernelIdeal Cert.KernelIdeal.Gen Cert.KernelIdeal.Hand
variable {F : FTy → Type} [FloatOps F]

/-- The largest magnitude over 448; -/
theorem kpay6_apply (x : Vec F S512x4480 .bf16) (i) :
    k0_pay6 x i = FloatOps.mulf (k0_pay5 x i) (Scalar.ofBits .f32 0x3B124925#32) := rfl

/-- the first five steps of the search; -/
theorem kpay7_apply (x : Vec F S512x4480 .bf16) (i) : k0_pay7 x i = search5 (k0_pay6 x i) := rfl

/-- the last three, and the exponent. -/
theorem kpay8_apply (a v : FVec F S512x1 .f32) (n : IVec S512x1 32) (i) :
    k0_pay8 a v n 4#32 i = expOf (a i) (search3 (v i) (n i)) := rfl

/-- The kernel's exponents. -/
theorem kexp_apply (x : Vec F S512x4480 .bf16) (i) :
    k0_pay8 (k0_pay5 x) (k0_pay6 x) (k0_pay7 x) 4#32 i = expK (k0_pay5 x i) := by
  rw [kpay8_apply, kpay7_apply, kpay6_apply]; rfl

/-- The power of two of an exponent. -/
theorem kpay1_apply (a v : FVec F S512x1 .f32) (n : IVec S512x1 32) (i) :
    k0_pay1 (k0_pay10 a v n 4#32) (k0_pay11 a v n 4#32) 23#32 i = ldexpK (k0_pay8 a v n 4#32 i) := rfl

/-- The kernel's scales. -/
theorem scaleOf_apply (x : Vec F S512x4480 .bf16) (i) : scaleOf x i = ldexpK (expK (k0_pay5 x i)) := by
  unfold scaleOf; rw [kpay1_apply, kexp_apply]

/-- The codes of the entries, the inverse scale spread along the row. -/
theorem kpay2_apply (y : FVec F S512x4480 .f32) (e : IVec S512x1 32) (i) :
    k0_pay2 y e i = code (y i) (broadcastTo S512x4480 (fun k => ldexpK (IntOp.subi 0#32 (e k)) : FVec F S512x1 .f32) broadcasts_S512x1_S512x4480 i) := rfl

end Kernel

section Reference
open Cert.ReferenceIdeal Cert.ReferenceIdeal.Gen
variable {F : FTy → Type} [FloatOps F] [Named F]

/-- The reference's largest magnitudes, row by row. -/
def rowMax (x : Vec F S8192x4480 .bf16) : FVec F S8192x1 .f32 :=
  shapeCast S8192x1 (multiReduction .maximumf [1] S8192 (absf (k0_pay2 x)) 0xFF800000#32 reduces_S8192x4480_S8192 (.inl rfl) rfl) shapeCasts_S8192_S8192x1

/-- The reference's exponents, -/
theorem rpay3_apply (x : Vec F S8192x4480 .bf16) (i) : k0_pay3 x i = expR (rowMax x i) := rfl

/-- its scales -/
theorem rpay4_apply (x : Vec F S8192x4480 .bf16) (i) : k0_pay4 x i = FloatOps.exp2 (expR (rowMax x i)) := rfl

/-- and its codes. -/
theorem rpay5_apply (x : Vec F S8192x4480 .bf16) (i) :
    k0_pay5 x i = code (k0_pay2 x i) (broadcastTo S8192x4480 (fun k => FloatOps.exp2 (FloatOps.subf (Scalar.ofBits .f32 0x00000000#32) (expR (rowMax x k))) : FVec F S8192x1 .f32) broadcasts_S8192x1_S8192x4480 i) := rfl

end Reference

/-! ## At the real numbers: the row maxima, the codes and the product -/

section KernelIdeal
open Cert.KernelIdeal Cert.KernelIdeal.Gen Cert.KernelIdeal.Hand

/-- The kernel's largest magnitude of a row is the fold of `max` over the row. -/
theorem kmax_apply (x : Vec Ideal S512x4480 .bf16) (r : Fin 512) :
    k0_pay5 x (ix2 r (0 : Fin 1))
      = Finset.fold max (Ideal.ofBits .f32 0xFF800000#32) (fun k : Fin 4480 => max (x (ix2 r k)) (-(x (ix2 r k)))) Finset.univ := by
  pointwise [k0_pay5, k0_pay4]
  rfl

/-- The kernel's code of an entry. -/
theorem kcodes_apply (x : Vec Ideal S512x4480 .bf16) (r : Fin 512) (j : Fin 4480) :
    codesOf x (ix2 r j) = code (F := Ideal) (x (ix2 r j)) (ldexpK (F := Ideal) (IntOp.subi 0#32 (expK (k0_pay5 x (ix2 r (0 : Fin 1)))))) := by
  unfold codesOf
  rw [kpay2_apply, broadcastTo_apply _ _ (ix2 r j) (ix2 r (0 : Fin 1)) (fun a => by fin_cases a <;> rfl), kexp_apply]
  have e : k0_pay4 x (ix2 r j) = x (ix2 r j) := by pointwise [k0_pay4]
  rw [e]

/-- The kernel's product at an entry: the sum over the row of codes, scaled by row and column, the bias added. -/
theorem ky_apply (x0 : Vec Ideal S512x4480 .fp8e4m3) (x1 : Vec Ideal S4480x1664 .fp8e4m3) (x2 : Vec Ideal S512x1 .f32)
    (x3 x4 : Vec Ideal S1x1664 .f32) (r : Fin 512) (j : Fin 1664) :
    k0_pay3 x0 x1 x2 x3 x4 (ix2 r j)
      = (∑ k, x0 (ix2 r k) * x1 (ix2 k j)) * x2 (ix2 r (0 : Fin 1)) * x3 (ix2 (0 : Fin 1) j) + x4 (ix2 (0 : Fin 1) j) := by
  pointwise [k0_pay3]

end KernelIdeal

section ReferenceIdeal
open Cert.ReferenceIdeal Cert.ReferenceIdeal.Gen

/-- The reference's largest magnitude of a row is the fold of `max` over the row. -/
theorem rmax_apply (x : Vec Ideal S8192x4480 .bf16) (r : Fin 8192) :
    rowMax x (ix2 r (0 : Fin 1))
      = Finset.fold max (Ideal.ofBits .f32 0xFF800000#32) (fun k : Fin 4480 => max (x (ix2 r k)) (-(x (ix2 r k)))) Finset.univ := by
  pointwise [rowMax, k0_pay2]
  rfl

/-- The reference's code of an entry. -/
theorem rcodes_apply (x : Vec Ideal S8192x4480 .bf16) (r : Fin 8192) (j : Fin 4480) :
    k0_pay5 x (ix2 r j) = code (F := Ideal) (x (ix2 r j))
      (FloatOps.exp2 (FloatOps.subf (Scalar.ofBits (F := Ideal) .f32 0x00000000#32) (expR (F := Ideal) (rowMax x (ix2 r (0 : Fin 1)))))) := by
  rw [rpay5_apply, broadcastTo_apply _ _ (ix2 r j) (ix2 r (0 : Fin 1)) (fun a => by fin_cases a <;> rfl)]
  have e : k0_pay2 x (ix2 r j) = x (ix2 r j) := by pointwise [k0_pay2]
  rw [e]

/-- The reference's product at an entry. -/
theorem ry_apply (x0 : Vec Ideal S8192x4480 .bf16) (x1 : Vec Ideal S4480x8320 .fp8e4m3)
    (x2 x3 : Vec Ideal S1x8320 .f32) (r : Fin 8192) (j : Fin 8320) :
    k0_pay1 (k0_pay6 x0 x1) x2 x3 (ix2 r j)
      = (∑ k, k0_pay5 x0 (ix2 r k) * x1 (ix2 k j)) * k0_pay4 x0 (ix2 r (0 : Fin 1)) * x2 (ix2 (0 : Fin 1) j) + x3 (ix2 (0 : Fin 1) j) := by
  pointwise [k0_pay1, k0_pay6]

end ReferenceIdeal

end Cert.Values

end
-- ==== Proof.Exponent.lean ====
module

public import proofs.«01_k».proof.Proof.Gen.ReferenceIdeal.Skeleton
public import proofs.«01_k».proof.Proof.Scalars
public import Idealize.ShloMosaic.PureOps.Ideal.Laws

@[expose] public section

set_option maxRecDepth 16384

noncomputable section

namespace Cert.Values

open Idealize.ShloMosaic

/-! ## Powers of two by their words -/

/-- The fields of the word `n <<< 23`: sign 0, exponent `n`, fraction 0. -/
theorem fields : ∀ n : Fin 256, (BitVec.extractLsb' 31 1 (BitVec.ofNat 32 n.val <<< 23) == 1#1) = false
    ∧ (BitVec.extractLsb' 23 8 (BitVec.ofNat 32 n.val <<< 23)).toNat = n.val
    ∧ (BitVec.extractLsb' 0 23 (BitVec.ofNat 32 n.val <<< 23)).toNat = 0 := by decide

/-- The float with exponent field `n`, decoded at the real numbers. -/
theorem pow2_eq (n : BitVec 32) : (pow2 n : Ideal .f32) = Ideal.ieee 8 23 (n <<< 23) := rfl

/-- The significand of a normal power of two, times its unit, is the power of two. -/
theorem pow_shift (n : ℕ) : ((2 ^ 23 + 0 : ℕ) : ℝ) * (2 : ℝ) ^ ((n : ℤ) - ((2 ^ (8 - 1) - 1 : ℕ) : ℤ) - ((23 : ℕ) : ℤ)) = (2 : ℝ) ^ ((n : ℤ) - 127) := by
  have h : ((2 ^ 23 + 0 : ℕ) : ℝ) = (2 : ℝ) ^ (23 : ℤ) := by norm_num
  rw [h, ← zpow_add₀ (by norm_num : (2 : ℝ) ≠ 0)]
  congr 1
  norm_num

/-- `pow2 n` is `2^(n-127)` at the exponent fields of the normal floats, -/
theorem pow2_coe (n : ℕ) (h1 : 1 ≤ n) (h2 : n ≤ 254) :
    (pow2 (BitVec.ofNat 32 n) : Ideal .f32) = (((2 : ℝ) ^ ((n : ℤ) - 127) : ℝ) : EReal) := by
  obtain ⟨f1, f2, f3⟩ := fields ⟨n, by omega⟩
  rw [pow2_eq]
  simp only [Ideal.ieee, f1, f2, f3]
  rw [if_neg (by omega), if_neg (by omega)]
  rw [if_neg Bool.false_ne_true, one_mul]
  exact congrArg (fun x : ℝ => (x : EReal)) (pow_shift n)

/-- and `+∞` at the last one. -/
theorem pow2_top : (pow2 (BitVec.ofNat 32 255) : Ideal .f32) = ⊤ := by
  obtain ⟨f1, f2, f3⟩ := fields ⟨255, by omega⟩
  rw [pow2_eq]
  simp only [Ideal.ieee, f1, f2, f3]
  simp

/-! ## The search -/

/-- Words of naturals add as the naturals. -/
theorem addi_ofNat (n b : ℕ) : IntOp.addi (BitVec.ofNat 32 n) (BitVec.ofNat 32 b) = BitVec.ofNat 32 (n + b) :=
  (BitVec.ofNat_add n b).symm

/-- What is known of `v` after the steps down to bit `w`: the field `n` found so far is at most `v`'s, and adding `w` exceeds it. -/
def Inv (v : EReal) (n w : ℕ) : Prop :=
  n + w ≤ 256 ∧ (n = 0 ∨ (pow2 (BitVec.ofNat 32 n) : Ideal .f32) ≤ v) ∧ (n + w = 256 ∨ v < (pow2 (BitVec.ofNat 32 (n + w)) : Ideal .f32))

/-- One step of the search halves the range that the field is known to lie in. -/
theorem step_inv (v : EReal) (n b : ℕ) (h : Inv v n (2 * b)) (hb : 0 < b) :
    ∃ n', step (F := Ideal) v (BitVec.ofNat 32 n) (BitVec.ofNat 32 b) = BitVec.ofNat 32 n' ∧ Inv v n' b := by
  obtain ⟨h1, h2, h3⟩ := h
  have hc : FloatOps.cmpf (F := Ideal) (φ := .f32) .oge v (pow2 (BitVec.ofNat 32 (n + b)))
      = BitVec.ofBool (decide ((pow2 (BitVec.ofNat 32 (n + b)) : Ideal .f32) ≤ v)) := rfl
  unfold step
  rw [addi_ofNat, hc]
  generalize hT : (pow2 (BitVec.ofNat 32 (n + b)) : Ideal .f32) = T
  by_cases hle : (T : EReal) ≤ v
  · refine ⟨n + b, ?_, by omega, .inr (by rw [hT]; exact hle), ?_⟩
    · rw [decide_eq_true hle]; rfl
    · rw [show n + b + b = n + 2 * b by omega]; exact h3
  · refine ⟨n, ?_, by omega, h2, .inr (by rw [hT]; exact not_le.mp hle)⟩
    rw [decide_eq_false hle]; rfl

/-- The search finds the exponent field of `v`. -/
theorem search_spec (v : EReal) : ∃ n : ℕ, search3 (F := Ideal) v (search5 (F := Ideal) v) = BitVec.ofNat 32 n ∧ Inv v n 1 := by
  unfold search3 search5
  obtain ⟨n1, e1, i1⟩ := step_inv v 0 128 ⟨by omega, .inl rfl, .inl rfl⟩ (by omega)
  obtain ⟨n2, e2, i2⟩ := step_inv v n1 64 i1 (by omega)
  obtain ⟨n3, e3, i3⟩ := step_inv v n2 32 i2 (by omega)
  obtain ⟨n4, e4, i4⟩ := step_inv v n3 16 i3 (by omega)
  obtain ⟨n5, e5, i5⟩ := step_inv v n4 8 i4 (by omega)
  obtain ⟨n6, e6, i6⟩ := step_inv v n5 4 i5 (by omega)
  obtain ⟨n7, e7, i7⟩ := step_inv v n6 2 i6 (by omega)
  obtain ⟨n8, e8, i8⟩ := step_inv v n7 1 i7 (by omega)
  exact ⟨n8, by rw [e1, e2, e3, e4, e5, e6, e7, e8], i8⟩

/-! ## The kernel's power of two -/

/-- The two halves of an exponent between -128 and 128 name normal powers of two, whose exponents add up to it. -/
theorem halves : ∀ k : Fin 257,
    IntOp.addi 127#32 (IntOp.shrsi .vector (BitVec.ofInt 32 ((k.val : ℤ) - 128)) 1#32) = BitVec.ofNat 32 (63 + k.val / 2)
    ∧ IntOp.addi 127#32 (IntOp.subi (BitVec.ofInt 32 ((k.val : ℤ) - 128)) (IntOp.shrsi .vector (BitVec.ofInt 32 ((k.val : ℤ) - 128)) 1#32))
      = BitVec.ofNat 32 (63 + k.val - k.val / 2) := by decide

/-- The product of the two powers of half the exponent is the power of two. -/
theorem ldexpK_coe (e : ℤ) (h1 : -128 ≤ e) (h2 : e ≤ 128) :
    (ldexpK (BitVec.ofInt 32 e) : Ideal .f32) = (((2 : ℝ) ^ e : ℝ) : EReal) := by
  obtain ⟨k, rfl⟩ : ∃ k : ℕ, e = (k : ℤ) - 128 := ⟨(e + 128).toNat, by omega⟩
  obtain ⟨a1, a2⟩ := halves ⟨k, by omega⟩
  unfold ldexpK
  rw [a1, a2, pow2_coe _ (by omega) (by omega), pow2_coe _ (by omega) (by omega), Ideal.mulf_def, ← EReal.coe_mul,
    ← zpow_add₀ (by norm_num : (2 : ℝ) ≠ 0)]
  congr 2
  push_cast
  omega

/-- The exponential to base two at an integer is the integer power. -/
theorem exp2_int (e : ℤ) : Ideal.exp2 ((e : ℝ) : EReal) = (((2 : ℝ) ^ e : ℝ) : EReal) := by
  rw [Ideal.exp2_coe]; congr 1; exact Real.rpow_intCast 2 e

/-- Zero less the word of an integer is the word of its negative. -/
theorem neg_ofInt (e : ℤ) : IntOp.subi 0#32 (BitVec.ofInt 32 e) = BitVec.ofInt 32 (-e) := by
  show 0#32 - _ = _
  rw [BitVec.zero_sub, BitVec.ofInt_neg]

/-! ## The exponents agree -/

/-- The word of 1. -/
theorem one_f32 : Ideal.ofBits .f32 0x3F800000#32 = 1 := by simp [Ideal.ofBits, Ideal.ieee, -EReal.coe_mul]; norm_num
/-- The word of 128. -/
theorem c128_f32 : Ideal.ofBits .f32 0x43000000#32 = ((128 : ℝ) : EReal) := by simp [Ideal.ofBits, Ideal.ieee, -EReal.coe_mul]; norm_num
/-- The word of infinity. -/
theorem inf_f32 : Ideal.ofBits .f32 0x7F800000#32 = ⊤ := by simp [Ideal.ofBits, Ideal.ieee]
/-- The word of the least normal number is the power of two at field 1. -/
theorem tiny_f32 : Ideal.ofBits .f32 0x00800000#32 = (pow2 (BitVec.ofNat 32 1) : Ideal .f32) := rfl
/-- The word of 0. -/
theorem zero_f32 : Ideal.ofBits .f32 0x00000000#32 = 0 := Ideal.ofBits_zero_f32
/-- The named constant is the logarithm of two. -/
theorem ln2_named : (Named.named Cert.ReferenceIdeal.κ "ln2" 0x3F317218#32 : Ideal .f32) = ((Real.log 2 : ℝ) : EReal) := rfl

/-- From `2 ^ n ≤ r`, `n ≤ log r / log 2`. -/
theorem le_logDiv (r : ℝ) (n : ℤ) (h1 : (2 : ℝ) ^ n ≤ r) : (n : ℝ) ≤ Real.log r / Real.log 2 := by
  rw [le_div_iff₀ (Real.log_pos (by norm_num)), ← Real.log_zpow]
  exact Real.log_le_log (by positivity) h1

/-- For a value whose field is `n`, `⌊log₂ r⌋ = n - 127`. -/
theorem floor_log (r : ℝ) (n : ℤ) (h1 : (2 : ℝ) ^ n ≤ r) (h2 : r < (2 : ℝ) ^ (n + 1)) : ⌊Real.log r / Real.log 2⌋ = n := by
  have hr : 0 < r := lt_of_lt_of_le (by positivity) h1
  have hl2 : 0 < Real.log 2 := Real.log_pos (by norm_num)
  rw [Int.floor_eq_iff]
  constructor
  · exact le_logDiv r n h1
  · rw [div_lt_iff₀ hl2]
    have h := Real.log_lt_log hr h2
    rw [Real.log_zpow] at h
    push_cast at h; exact h

/-- A select on a decided proposition is an if. -/
theorem select_ofBool {α : Type} (p : Prop) [Decidable p] (x y : α) :
    Scalar.select (BitVec.ofBool (decide p)) x y = if p then x else y := by
  by_cases h : p <;> simp [Scalar.select, h]

/-- Equality compared at the real numbers; -/
theorem cmp_oeq (x y : Ideal .f32) : FloatOps.cmpf (F := Ideal) .oeq x y = BitVec.ofBool (decide ((x : EReal) = y)) := rfl
/-- greater or equal; -/
theorem cmp_oge (x y : Ideal .f32) : FloatOps.cmpf (F := Ideal) .oge x y = BitVec.ofBool (decide ((y : EReal) ≤ x)) := rfl
/-- less. -/
theorem cmp_olt (x y : Ideal .f32) : FloatOps.cmpf (F := Ideal) .olt x y = BitVec.ofBool (decide ((x : EReal) < y)) := rfl

/-- The conjunction of two decided propositions. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The kernel's exponent from a field: the field less 126, but 0 at the two ends. -/
theorem field_exp : ∀ n : Fin 256,
    Scalar.select (IntOp.ori (IntOp.cmpi .eq (BitVec.ofNat 32 n.val) 0#32) (IntOp.cmpi .eq (BitVec.ofNat 32 n.val) 255#32)) 0#32 (IntOp.subi (BitVec.ofNat 32 n.val) 126#32)
      = BitVec.ofInt 32 (if n.val = 0 ∨ n.val = 255 then 0 else (n.val : ℤ) - 126) := by decide

/-- THE EXPONENTS: both programs' exponent of a row whose largest magnitude is `a` is one integer between -125 and 128. -/
theorem exp_eq (a : EReal) : ∃ e : ℤ, -125 ≤ e ∧ e ≤ 128 ∧ expK (F := Ideal) a = BitVec.ofInt 32 e ∧ expR (F := Ideal) a = ((e : ℝ) : EReal) := by
  unfold expK expR expOf
  dsimp only
  generalize FloatOps.mulf (F := Ideal) (φ := .f32) a _ = v
  obtain ⟨n, hn, h1, h2, h3⟩ := search_spec v
  rw [hn, field_exp ⟨n, by omega⟩]
  simp only [cmp_oeq, cmp_oge, cmp_olt, andi_ofBool, select_ofBool, Scalar.ofBits, Ideal.ofBits_def]
  rw [zero_f32, one_f32, c128_f32, inf_f32, tiny_f32, ln2_named]
  by_cases ha : a = 0
  · exact ⟨0, by omega, by omega, by rw [if_pos ha]; rfl, by rw [if_pos ha]; simp⟩
  rw [if_neg ha, if_neg ha]
  rcases Nat.eq_zero_or_pos n with h0 | h0
  · subst h0
    have hv : v < (pow2 (BitVec.ofNat 32 1) : Ideal .f32) := by
      rcases h3 with h | h
      · omega
      · exact h
    refine ⟨0, by omega, by omega, by simp, ?_⟩
    rw [if_neg (fun h => absurd h.1 (not_le.mpr hv))]; simp
  have hle : (pow2 (BitVec.ofNat 32 n) : Ideal .f32) ≤ v := by
    rcases h2 with h | h
    · omega
    · exact h
  by_cases h255 : n = 255
  · subst h255
    rw [pow2_top] at hle
    refine ⟨0, by omega, by omega, by simp, ?_⟩
    rw [if_neg (fun h => absurd h.2 (not_lt.mpr hle))]; simp
  have hlt : v < (pow2 (BitVec.ofNat 32 (n + 1)) : Ideal .f32) := by
    rcases h3 with h | h
    · omega
    · exact h
  rw [pow2_coe n h0 (by omega)] at hle
  have htop : v < ⊤ := lt_of_lt_of_le hlt le_top
  have htiny : (pow2 (BitVec.ofNat 32 1) : Ideal .f32) ≤ v := by
    refine le_trans ?_ hle
    rw [pow2_coe 1 (by omega) (by omega), EReal.coe_le_coe_iff]
    exact zpow_le_zpow_right₀ (by norm_num) (by push_cast; omega)
  refine ⟨(n : ℤ) - 126, by omega, by omega, by rw [if_neg (by omega)], ?_⟩
  rw [if_pos ⟨htiny, htop⟩]
  obtain ⟨r, rfl⟩ : ∃ r : ℝ, v = (r : EReal) := by
    exact ⟨EReal.toReal v, (EReal.coe_toReal htop.ne (fun h => by rw [h] at hle; simp at hle)).symm⟩
  rw [EReal.coe_le_coe_iff] at hle
  have hr : 0 < r := lt_of_lt_of_le (by positivity) hle
  have hl2 : Real.log 2 ≠ 0 := (Real.log_pos (by norm_num)).ne'
  rw [Ideal.log_def, Ideal.log_coe, if_neg (not_le.mpr hr), Ideal.divf_def, Ideal.div_coe hl2, ← EReal.coe_mul, Ideal.floor_def, Ideal.liftRound_coe,
    Ideal.addf_def, Ideal.minimumf_def, ← EReal.coe_one, ← EReal.coe_add]
  rw [show Real.log r * (1 / Real.log 2) = Real.log r / Real.log 2 by ring]
  rcases Nat.lt_or_ge n 254 with hn' | hn'
  · rw [pow2_coe (n + 1) (by omega) (by omega), EReal.coe_lt_coe_iff] at hlt
    rw [floor_log r ((n : ℤ) - 127) hle (by convert hlt using 2; push_cast; ring)]
    rw [min_eq_left]
    · congr 1; push_cast; ring
    · rw [EReal.coe_le_coe_iff]
      have : (n : ℝ) < 254 := by exact_mod_cast hn'
      push_cast; linarith
  · have e254 : n = 254 := by omega
    subst e254
    rw [min_eq_right]
    · norm_num
    · rw [EReal.coe_le_coe_iff]
      have : (127 : ℤ) ≤ ⌊Real.log r / Real.log 2⌋ := by
        rw [Int.le_floor]
        exact le_logDiv r 127 hle
      have : (127 : ℝ) ≤ (⌊Real.log r / Real.log 2⌋ : ℝ) := by exact_mod_cast this
      linarith

/-- THE SCALES agree. -/
theorem scale_eq (a : EReal) : (ldexpK (expK (F := Ideal) a) : Ideal .f32) = Ideal.exp2 (expR (F := Ideal) a) := by
  obtain ⟨e, h1, h2, hK, hR⟩ := exp_eq a
  rw [hK, hR, exp2_int, ldexpK_coe e (by omega) h2]

/-- THE INVERSE SCALES agree. -/
theorem inv_scale_eq (a : EReal) : (ldexpK (IntOp.subi 0#32 (expK (F := Ideal) a)) : Ideal .f32)
    = FloatOps.exp2 (F := Ideal) (φ := .f32) (FloatOps.subf (Scalar.ofBits (F := Ideal) .f32 0x00000000#32) (expR (F := Ideal) a)) := by
  obtain ⟨e, h1, h2, hK, hR⟩ := exp_eq a
  rw [hK, hR, neg_ofInt, ldexpK_coe (-e) (by omega) (by omega), show ∀ x : Ideal .f32, FloatOps.exp2 x = Ideal.exp2 x from fun _ => rfl, Ideal.subf_def,
    show (Scalar.ofBits (F := Ideal) .f32 0x00000000#32 : EReal) = 0 from zero_f32,
    zero_sub, ← EReal.coe_neg, ← Int.cast_neg, exp2_int]

end Cert.Values

end
-- ==== Proof.Blocks.lean ====
module

public import proofs.«01_k».proof.Proof.Payload
public import proofs.«01_k».proof.Proof.Exponent

@[expose] public section

set_option maxRecDepth 16384

noncomputable section

/-! # A row block of the kernel against the rows of the reference

Everything the kernel computes of one row needs that row alone. So of a block whose row `r` is row `R r` of the whole
array, the block's scales, codes and products are those the reference computes of row `R r`. -/

namespace Cert.Values

open Idealize.ShloMosaic Cert.KernelIdeal.Hand

variable (X : Vec Ideal Cert.ReferenceIdeal.S8192x4480 .bf16) (x : Vec Ideal Cert.KernelIdeal.S512x4480 .bf16)
variable (R : Fin 512 → Fin 8192) (hx : ∀ r k, x (ix2 r k) = X (ix2 (R r) k))

include hx

/-- A row's largest magnitude is the same, read off the block or off the array. -/
theorem max_block (r : Fin 512) : Cert.KernelIdeal.Gen.k0_pay5 x (ix2 r (0 : Fin 1)) = rowMax X (ix2 (R r) (0 : Fin 1)) := by
  rw [kmax_apply, rmax_apply]
  simp only [hx]

/-- The block's scales are the reference's. -/
theorem scale_block (r : Fin 512) : scaleOf x (ix2 r (0 : Fin 1)) = Cert.ReferenceIdeal.Gen.k0_pay4 X (ix2 (R r) (0 : Fin 1)) := by
  rw [scaleOf_apply, max_block X x R hx, rpay4_apply]
  exact scale_eq _

/-- The block's codes are the reference's. -/
theorem codes_block (r : Fin 512) (j : Fin 4480) : codesOf x (ix2 r j) = Cert.ReferenceIdeal.Gen.k0_pay5 X (ix2 (R r) j) := by
  rw [kcodes_apply, max_block X x R hx, rcodes_apply, inv_scale_eq, hx]

/-- The block's products, scaled and with the bias added, are the reference's: column `j` of the weight block, of the
    column scales' block and of the bias' block is column `C j` of the whole arrays. -/
theorem y_block (W : Vec Ideal Cert.ReferenceIdeal.S4480x8320 .fp8e4m3) (S B : Vec Ideal Cert.ReferenceIdeal.S1x8320 .f32)
    (w : Vec Ideal Cert.KernelIdeal.S4480x1664 .fp8e4m3) (s b : Vec Ideal Cert.KernelIdeal.S1x1664 .f32)
    (C : Fin 1664 → Fin 8320) (hw : ∀ k j, w (ix2 k j) = W (ix2 k (C j)))
    (hs : ∀ j, s (ix2 (0 : Fin 1) j) = S (ix2 (0 : Fin 1) (C j))) (hb : ∀ j, b (ix2 (0 : Fin 1) j) = B (ix2 (0 : Fin 1) (C j)))
    (r : Fin 512) (j : Fin 1664) :
    Cert.KernelIdeal.Gen.k0_pay3 (codesOf x) w (scaleOf x) s b (ix2 r j)
      = Cert.ReferenceIdeal.Gen.k0_pay1 (Cert.ReferenceIdeal.Gen.k0_pay6 X W) S B (ix2 (R r) (C j)) := by
  rw [ky_apply, ry_apply, scale_block X x R hx, hs, hb]
  simp only [codes_block X x R hx, hw]

end Cert.Values

end
-- ==== Proof.Whole.lean ====
module

public import proofs.«01_k».proof.Proof.Blocks
public import proofs.«01_k».proof.Proof.HandFrame
public import Idealize.ShloMosaic.Lib.Pipeline.ValueKit

@[expose] public section

set_option maxRecDepth 16384

noncomputable section

/-! # The kernel's results as whole arrays -/

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 80 points. -/
theorem point_lt (t : Fin cfg0.N) : t.val < 80 := Nat.lt_of_lt_of_eq t.isLt N_0

/-- The array's row under row `r` of point `t`'s row block. -/
def rowAt (t : Fin cfg0.N) (r : Fin 512) : Fin 8192 := ⟨512 * (t.val / 5) + r.val, by have := point_lt t; omega⟩
/-- The array's column under column `j` of point `t`'s column block. -/
def colAt (t : Fin cfg0.N) (j : Fin 1664) : Fin 8320 := ⟨1664 * (t.val % 5) + j.val, by omega⟩

/-- The block index of each window at point `t`: row blocks by `t / 5`, column blocks by `t % 5`. -/
theorem index0 : ∀ t : Fin cfg0.N, win0_0.index t = ![t.val / 5, 0] :=
  (by decide +kernel : ∀ t : Fin grid0.N, win0_0.index t = ![t.val / 5, 0])
theorem index1 : ∀ t : Fin cfg0.N, win0_1.index t = ![0, t.val % 5] :=
  (by decide +kernel : ∀ t : Fin grid0.N, win0_1.index t = ![0, t.val % 5])
theorem index2 : ∀ t : Fin cfg0.N, win0_2.index t = ![0, t.val % 5] :=
  (by decide +kernel : ∀ t : Fin grid0.N, win0_2.index t = ![0, t.val % 5])
theorem index3 : ∀ t : Fin cfg0.N, win0_3.index t = ![0, t.val % 5] :=
  (by decide +kernel : ∀ t : Fin grid0.N, win0_3.index t = ![0, t.val % 5])
theorem index4 : ∀ t : Fin cfg0.N, win0_4.index t = ![t.val / 5, t.val % 5] :=
  (by decide +kernel : ∀ t : Fin grid0.N, win0_4.index t = ![t.val / 5, t.val % 5])
theorem index5 : ∀ t : Fin cfg0.N, win0_5.index t = ![t.val / 5, 0] :=
  (by decide +kernel : ∀ t : Fin grid0.N, win0_5.index t = ![t.val / 5, 0])
theorem index6 : ∀ t : Fin cfg0.N, win0_6.index t = ![t.val / 5, 0] :=
  (by decide +kernel : ∀ t : Fin grid0.N, win0_6.index t = ![t.val / 5, 0])

/-- Entry `(r, k)` of point `t`'s activation block is the array's entry in the row under `r`; -/
theorem read0 (c : Dev nD) (t : Fin cfg0.N) (r : Fin 512) (k : Fin 4480) :
    iblk m c 0 t (ix2 r k) = V m c main_v0 (ix2 (rowAt t r) k) := by
  blk_simp [iblk]
  congr 1
  blk_ext [index0, rowAt]

/-- of its weight block, in the column under `j`; -/
theorem read1 (c : Dev nD) (t : Fin cfg0.N) (k : Fin 4480) (j : Fin 1664) :
    iblk m c 1 t (ix2 k j) = V m c main_arg1 (ix2 k (colAt t j)) := by
  blk_simp [iblk]
  congr 1
  blk_ext [index1, colAt]

/-- of its block of column scales, likewise; -/
theorem read2 (c : Dev nD) (t : Fin cfg0.N) (j : Fin 1664) :
    iblk m c 2 t (ix2 (0 : Fin 1) j) = V m c main_v1 (ix2 (0 : Fin 1) (colAt t j)) := by
  blk_simp [iblk]
  congr 1
  blk_ext [index2, colAt]

/-- and of its block of the bias, likewise. -/
theorem read3 (c : Dev nD) (t : Fin cfg0.N) (j : Fin 1664) :
    iblk m c 3 t (ix2 (0 : Fin 1) j) = V m c main_v2 (ix2 (0 : Fin 1) (colAt t j)) := by
  blk_simp [iblk]
  congr 1
  blk_ext [index3, colAt]

/-! ## The three result arrays: the reference's functions of the arrays the kernel is called on -/

/-- The first result: the products, scaled, the bias added. -/
theorem final4 (c : Dev nD) : (dats m 0 c).arrAt 4 cfg0.N
    = Cert.ReferenceIdeal.Gen.k0_pay1 (F := Ideal) (Cert.ReferenceIdeal.Gen.k0_pay6 (F := Ideal) (V m c main_v0) (V m c main_arg1)) (V m c main_v1) (V m c main_v2) := by
  refine (dats m 0 c).arrAt_eq_of_covers 4 _ (by decide +kernel) fun t hf y => ?_
  blk_simp
  rw [after0_4]
  obtain ⟨r, j, rfl⟩ : ∃ (r : Fin 512) (j : Fin 1664), y = ix2 r j := ⟨y 0, y 1, eq_ix2 (n0 := 512) (n1 := 1664) y⟩
  have e : (win0_4.blk t).view.emb (ix2 r j) = ix2 (rowAt t r) (colAt t j) := by blk_ext [index4, rowAt, colAt]
  rw [e]
  exact Cert.Values.y_block _ _ (rowAt t) (read0 m c t) _ _ _ _ _ _ (colAt t) (read1 m c t) (read2 m c t) (read3 m c t) r j

/-- The second result: the codes. -/
theorem final5 (c : Dev nD) : (dats m 0 c).arrAt 5 cfg0.N = Cert.ReferenceIdeal.Gen.k0_pay5 (F := Ideal) (V m c main_v0) := by
  refine (dats m 0 c).arrAt_eq_of_covers 5 _ (by decide +kernel) fun t hf y => ?_
  blk_simp
  rw [after0_5]
  obtain ⟨r, j, rfl⟩ : ∃ (r : Fin 512) (j : Fin 4480), y = ix2 r j := ⟨y 0, y 1, eq_ix2 (n0 := 512) (n1 := 4480) y⟩
  have e : (win0_5.blk t).view.emb (ix2 r j) = ix2 (rowAt t r) j := by blk_ext [index5, rowAt]
  rw [e]
  exact Cert.Values.codes_block _ _ (rowAt t) (read0 m c t) r j

/-- An index of a single column. -/
theorem eq_ix2_zero {n : ℕ} (y : (⟨2, ![n, 1]⟩ : Shape).Idx) : ∃ r : Fin n, y = ix2 r (0 : Fin 1) := by
  obtain ⟨r, j, rfl⟩ : ∃ (r : Fin n) (j : Fin 1), y = ix2 r j := ⟨y 0, y 1, eq_ix2 y⟩
  exact ⟨r, by rw [Subsingleton.elim j 0]⟩

/-- Row `r` of point `t`'s block of scales is the array's row under `r`. -/
theorem emb6 (t : Fin cfg0.N) (r : Fin 512) : (win0_6.blk t).view.emb (ix2 r (0 : Fin 1)) = ix2 (rowAt t r) (0 : Fin 1) := by
  blk_ext [index6, rowAt]

/-- The blocks of scales written back cover the array. -/
theorem covers6 : (cfg0.win 6).Covers := by decide +kernel

/-- An array that holds every block's scales in its rows is what the third result ends at. -/
theorem final6_of (c : Dev nD) (G : Vec Ideal S8192x1 .f32)
    (hG : ∀ t r, scaleOf (iblk m c 0 t) (ix2 r (0 : Fin 1)) = G (ix2 (rowAt t r) (0 : Fin 1))) :
    (dats m 0 c).arrAt 6 cfg0.N = G := by
  refine (dats m 0 c).arrAt_eq_of_covers 6 G covers6 fun t hf y => ?_
  blk_simp
  rw [after0_6]
  obtain ⟨r, rfl⟩ := eq_ix2_zero y
  exact (hG t r).trans (congrArg G (emb6 t r).symm)

/-- The third result: the scales. -/
theorem final6 (c : Dev nD) : (dats m 0 c).arrAt 6 cfg0.N = Cert.ReferenceIdeal.Gen.k0_pay4 (F := Ideal) (V m c main_v0) :=
  final6_of m c _ fun t r => Cert.Values.scale_block _ _ (rowAt t) (read0 m c t) r

/-! ## The arrays the kernel is called on: the arguments reshaped -/

/-- The activations, the leading axis of extent one dropped; -/
theorem V_main_v0 (c : Dev nD) : V m c main_v0 = shapeCast _ (m ((c : Thread nD τ).loc main_arg0)) shapeCasts_S1x8192x4480_S8192x4480 := by
  entry_read; rfl
/-- the column scales as one row; -/
theorem V_main_v1 (c : Dev nD) : V m c main_v1 = shapeCast _ (m ((c : Thread nD τ).loc main_arg2)) shapeCasts_S8320_S1x8320 := by
  entry_read; rfl
/-- the bias as one row. -/
theorem V_main_v2 (c : Dev nD) : V m c main_v2 = shapeCast _ (m ((c : Thread nD τ).loc main_arg3)) shapeCasts_S8320_S1x8320 := by
  entry_read; rfl

end Cert.KernelIdeal.Hand

end
-- ==== Proof.Reference.lean ====
module

public import proofs.«01_k».proof.Proof.Gen.ReferenceIdeal.Frame
public import Idealize.ShloMosaic.Lib.Pipeline.Value
public import Idealize.ShloMosaic.Lib.Pipeline.ValueKit

@[expose] public section

set_option maxRecDepth 16384

noncomputable section

/-! # The reference's results as whole arrays

The reference has one grid point, whose blocks are the whole arrays. -/

namespace Cert.ReferenceIdeal.Hand

open Cert.ReferenceIdeal Cert.ReferenceIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The offsets of a whole-buffer access are zero. -/
theorem hz : (![0, 0] : Fin 2 → Nat) = fun _ => 0 := funext fun a => by fin_cases a <;> rfl

/-- Every window's block index is zero at the one point. -/
theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])

/-- The one point's block of the activations is the array; -/
theorem whole0 (c : Dev nD) (t : Fin cfg0.N) : iblk m c 0 t = V m c main_v0 := by
  funext y
  blk_simp [iblk]
  congr 1
  blk_ext [index0]

/-- its block of the weights likewise; -/
theorem whole1 (c : Dev nD) (t : Fin cfg0.N) : iblk m c 1 t = V m c main_arg1 := by
  funext y
  blk_simp [iblk]
  congr 1
  blk_ext [index1]

/-- of the column scales; -/
theorem whole2 (c : Dev nD) (t : Fin cfg0.N) : iblk m c 2 t = V m c main_v1 := by
  funext y
  blk_simp [iblk]
  congr 1
  blk_ext [index2]

/-- of the bias. -/
theorem whole3 (c : Dev nD) (t : Fin cfg0.N) : iblk m c 3 t = V m c main_v2 := by
  funext y
  blk_simp [iblk]
  congr 1
  blk_ext [index3]

/-- The first result: the products of the codes, scaled, the bias added. -/
theorem final4 (c : Dev nD) : (dats m 0 c).arrAt 4 cfg0.N
    = k0_pay1 (k0_pay6 (V m c main_v0) (V m c main_arg1)) (V m c main_v1) (V m c main_v2) := by
  refine (dats m 0 c).arrAt_eq_of_covers 4 _ (by decide +kernel) fun t hf y => ?_
  blk_simp
  rw [after0_4, whole0, whole1, whole2, whole3]
  unfold out0_4
  rw [View.canon_unit_zero hz, View.ld_unit_zero hz, View.ld_unit_zero hz, View.ld_unit_zero hz, View.ld_unit_zero hz]
  congr 1
  blk_ext [index4]

/-- The second result: the codes. -/
theorem final5 (c : Dev nD) : (dats m 0 c).arrAt 5 cfg0.N = k0_pay5 (V m c main_v0) := by
  refine (dats m 0 c).arrAt_eq_of_covers 5 _ (by decide +kernel) fun t hf y => ?_
  blk_simp
  rw [after0_5, whole0, whole1, whole2, whole3]
  unfold out0_5
  rw [View.canon_unit_zero hz, View.ld_unit_zero hz]
  congr 1
  blk_ext [index5]

/-- The third result: the scales. -/
theorem final6 (c : Dev nD) : (dats m 0 c).arrAt 6 cfg0.N = k0_pay4 (V m c main_v0) := by
  refine (dats m 0 c).arrAt_eq_of_covers 6 _ (by decide +kernel) fun t hf y => ?_
  blk_simp
  rw [after0_6, whole0, whole1, whole2, whole3]
  unfold out0_6
  rw [View.canon_unit_zero hz, View.ld_unit_zero hz]
  congr 1
  blk_ext [index6]

/-! ## The arrays the reference is called on: the arguments reshaped -/

/-- The activations, the leading axis of extent one dropped; -/
theorem V_main_v0 (c : Dev nD) : V m c main_v0 = shapeCast _ (m ((c : Thread nD τ).loc main_arg0)) shapeCasts_S1x8192x4480_S8192x4480 := by
  entry_read; rfl
/-- the column scales as one row; -/
theorem V_main_v1 (c : Dev nD) : V m c main_v1 = shapeCast _ (m ((c : Thread nD τ).loc main_arg2)) shapeCasts_S8320_S1x8320 := by
  entry_read; rfl
/-- the bias as one row. -/
theorem V_main_v2 (c : Dev nD) : V m c main_v2 = shapeCast _ (m ((c : Thread nD τ).loc main_arg3)) shapeCasts_S8320_S1x8320 := by
  entry_read; rfl

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Whole
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.TcCoe

/-! ## What both programs are shown to end at, on device `c`, from the arguments in the kernel's launch memory `m` -/

section Results
open Cert.KernelIdeal Cert.KernelIdeal.Gen
variable (m : (ℓ : Loc nD τ sig) → Buf (Elt Ideal) ℓ)

/-- The first result: the products of the codes, scaled, the bias added. -/
def y (c : Dev nD) : Buf (Elt Ideal) ((c.tc : Thread nD τ).loc main_v3_0) :=
  Cert.ReferenceIdeal.Gen.k0_pay1 (F := Ideal) (Cert.ReferenceIdeal.Gen.k0_pay6 (F := Ideal) (V m c main_v0) (V m c main_arg1)) (V m c main_v1) (V m c main_v2)
/-- The second result: the codes. -/
def codes (c : Dev nD) : Buf (Elt Ideal) ((c.tc : Thread nD τ).loc main_v3_1) :=
  Cert.ReferenceIdeal.Gen.k0_pay5 (F := Ideal) (V m c main_v0)
/-- The third result: the scales. -/
def scales (c : Dev nD) : Buf (Elt Ideal) ((c.tc : Thread nD τ).loc main_v3_2) :=
  Cert.ReferenceIdeal.Gen.k0_pay4 (F := Ideal) (V m c main_v0)

end Results

/-- The kernel ends with its three results at these arrays. -/
theorem kernel_results (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = y m c
      ∧ r.2.mem ((c.tc : Thread Cert.KernelIdeal.nD Cert.KernelIdeal.τ).loc Cert.KernelIdeal.main_v3_1) = codes m c
      ∧ r.2.mem ((c.tc : Thread Cert.KernelIdeal.nD Cert.KernelIdeal.τ).loc Cert.KernelIdeal.main_v3_2) = scales m c) :=
  (θ_run Cert.KernelIdeal.defs _ _).mono (fun _ h c =>
      ⟨((h c).1 4).trans (Cert.KernelIdeal.Hand.final4 m c), ((h c).1 5).trans (Cert.KernelIdeal.Hand.final5 m c),
        ((h c).1 6).trans (Cert.KernelIdeal.Hand.final6 m c)⟩)
    (Cert.KernelIdeal.Hand.run_main m g)

/-- The reference ends with its three results at its functions of the arrays it is called on. -/
theorem reference_results (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v3_0)
          = Cert.ReferenceIdeal.Gen.k0_pay1 (F := Ideal) (Cert.ReferenceIdeal.Gen.k0_pay6 (F := Ideal) (Cert.ReferenceIdeal.Gen.V m c Cert.ReferenceIdeal.main_v0) (Cert.ReferenceIdeal.Gen.V m c Cert.ReferenceIdeal.main_arg1)) (Cert.ReferenceIdeal.Gen.V m c Cert.ReferenceIdeal.main_v1) (Cert.ReferenceIdeal.Gen.V m c Cert.ReferenceIdeal.main_v2)
      ∧ r.2.mem ((c.tc : Thread Cert.ReferenceIdeal.nD Cert.ReferenceIdeal.τ).loc Cert.ReferenceIdeal.main_v3_1)
          = Cert.ReferenceIdeal.Gen.k0_pay5 (F := Ideal) (Cert.ReferenceIdeal.Gen.V m c Cert.ReferenceIdeal.main_v0)
      ∧ r.2.mem ((c.tc : Thread Cert.ReferenceIdeal.nD Cert.ReferenceIdeal.τ).loc Cert.ReferenceIdeal.main_v3_2)
          = Cert.ReferenceIdeal.Gen.k0_pay4 (F := Ideal) (Cert.ReferenceIdeal.Gen.V m c Cert.ReferenceIdeal.main_v0)) :=
  (θ_run Cert.ReferenceIdeal.defs _ _).mono (fun _ h c =>
      ⟨((h c).1 4).trans (Cert.ReferenceIdeal.Hand.final4 m c), ((h c).1 5).trans (Cert.ReferenceIdeal.Hand.final5 m c),
        ((h c).1 6).trans (Cert.ReferenceIdeal.Hand.final6 m c)⟩)
    (Cert.ReferenceIdeal.Gen.run_main m g)

/-- At the real numbers kernel and reference, from the same arguments, end with the same three results. -/
theorem algebraic : Cert.algebraic_KernelIdeal_ReferenceIdeal := by
  intro m g m' g' _ hagree
  refine ⟨y m, codes m, scales m, ?_, ?_⟩
  · exact (θ_run Cert.KernelIdeal.defs _ _).mono
      (fun _ h c => ⟨(h.1 c).1, (h.1 c).2.1, (h.1 c).2.2, h.2 c⟩)
      (θ_run_and (kernel_results m g) (Cert.KernelIdeal.Hand.unchanged m g))
  · have e0 (c : Dev Cert.KernelIdeal.nD) : (Cert.ReferenceIdeal.Gen.V m' c Cert.ReferenceIdeal.main_v0 : Vec Ideal Cert.ReferenceIdeal.S8192x4480 .bf16)
        = Cert.KernelIdeal.Gen.V m c Cert.KernelIdeal.main_v0 := by
      rw [Cert.ReferenceIdeal.Hand.V_main_v0, Cert.KernelIdeal.Hand.V_main_v0, (hagree c).1]
    have e1 (c : Dev Cert.KernelIdeal.nD) : (Cert.ReferenceIdeal.Gen.V m' c Cert.ReferenceIdeal.main_arg1 : Vec Ideal Cert.ReferenceIdeal.S4480x8320 .fp8e4m3)
        = Cert.KernelIdeal.Gen.V m c Cert.KernelIdeal.main_arg1 := by
      rw [Cert.ReferenceIdeal.Gen.V_main_arg1, Cert.KernelIdeal.Gen.V_main_arg1, (hagree c).2.1]
    have e2 (c : Dev Cert.KernelIdeal.nD) : (Cert.ReferenceIdeal.Gen.V m' c Cert.ReferenceIdeal.main_v1 : Vec Ideal Cert.ReferenceIdeal.S1x8320 .f32)
        = Cert.KernelIdeal.Gen.V m c Cert.KernelIdeal.main_v1 := by
      rw [Cert.ReferenceIdeal.Hand.V_main_v1, Cert.KernelIdeal.Hand.V_main_v1, (hagree c).2.2.1]
    have e3 (c : Dev Cert.KernelIdeal.nD) : (Cert.ReferenceIdeal.Gen.V m' c Cert.ReferenceIdeal.main_v2 : Vec Ideal Cert.ReferenceIdeal.S1x8320 .f32)
        = Cert.KernelIdeal.Gen.V m c Cert.KernelIdeal.main_v2 := by
      rw [Cert.ReferenceIdeal.Hand.V_main_v2, Cert.KernelIdeal.Hand.V_main_v2, (hagree c).2.2.2]
    refine (θ_run Cert.ReferenceIdeal.defs _ _).mono (fun _ h c => ⟨(h.1 c).1.trans ?_, (h.1 c).2.1.trans ?_, (h.1 c).2.2.trans ?_, h.2 c⟩)
      (θ_run_and (reference_results m' g') (Cert.ReferenceIdeal.Gen.unchanged m' g'))
    · rw [e0 c, e1 c, e2 c, e3 c]; rfl
    · rw [e0 c]; rfl
    · rw [e0 c]; rfl

/-- Everything claimed. -/
theorem claim : Cert.Claim := ⟨Cert.Kernel.Gen.facts, Cert.KernelIdeal.Gen.facts, Cert.ReferenceIdeal.Gen.facts,
  kernel_frame, fun m ρ _ => Cert.KernelIdeal.Hand.frame m ρ,
  fun m ρ _ => Cert.ReferenceIdeal.Gen.frame m ρ, trivial, algebraic⟩

end Cert.Proof

end
